-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_sub_lengths [hPre_unit_sub_lengths : Cert.Pre_unit_sub_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_unit_sub_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_sub_lengths [hPre_unit_sub_lengths : Cert.Pre_unit_sub_lengths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_sub_lengths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_unit_sub_lengths [hKernelIdeal : Cert.KernelIdeal.Facts] [hPre_unit_sub_lengths : Cert.Pre_unit_sub_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_sub_lengths m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_unit_sub_lengths [hReferenceIdeal : Cert.ReferenceIdeal.Facts] [hPre_unit_sub_lengths : Cert.Pre_unit_sub_lengths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_sub_lengths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_unit_sub_lengths [hKernelIdeal : Cert.KernelIdeal.Facts] [hReferenceIdeal : Cert.ReferenceIdeal.Facts] [hPre_unit_sub_lengths : Cert.Pre_unit_sub_lengths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_sub_lengths m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_unit_sub_lengths : Cert.Pre_unit_sub_lengths.Facts),
    quiescent_Kernel (hKernel := hKernel)
    ∧ quiescent_KernelIdeal (hKernelIdeal := hKernelIdeal)
    ∧ quiescent_KernelIdeal_pre_unit_sub_lengths (hKernelIdeal := hKernelIdeal) (hPre_unit_sub_lengths := hPre_unit_sub_lengths)
    ∧ quiescent_ReferenceIdeal (hReferenceIdeal := hReferenceIdeal)
    ∧ quiescent_ReferenceIdeal_pre_unit_sub_lengths (hReferenceIdeal := hReferenceIdeal) (hPre_unit_sub_lengths := hPre_unit_sub_lengths)
    ∧ preserves_Kernel_KernelIdeal
    ∧ algebraic_KernelIdeal_ReferenceIdeal_pre_unit_sub_lengths (hKernelIdeal := hKernelIdeal) (hReferenceIdeal := hReferenceIdeal) (hPre_unit_sub_lengths := hPre_unit_sub_lengths)
-- ==== Pre_unit_sub_lengths.lean ====
abbrev S32768x512 : Shape := ⟨2, ![32768, 512]⟩
abbrev S32768x64 : Shape := ⟨2, ![32768, 64]⟩
abbrev S32768 : Shape := ⟨1, ![32768]⟩
abbrev S64x512 : Shape := ⟨2, ![64, 512]⟩
abbrev S64 : Shape := ⟨1, ![64]⟩
abbrev S64x1024 : Shape := ⟨2, ![64, 1024]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S32768x512 .f32) (main_arg1 : FVec F S32768x512 .f32) (main_arg2 : FVec F S32768x64 .f32) (main_arg3 : FVec F S32768x64 .f32) (main_arg4 : IVec S32768 32) (main_arg5 : IVec S32768 32) (main_arg6 : FVec F S64x512 .f32) (main_arg7 : FVec F S64 .f32) (main_arg8 : FVec F S64x1024 .f32) (main_arg9 : FVec F S64 .f32) : IVec S32768 1 :=
  let main_c : IVec S_ 32 := constantI S_ 32 1#32
  let main_v0 : IVec S32768 32 := broadcastInDim S32768 ![] bcast_S_S32768 main_c
  let main_v1 : IVec S32768 1 := cmpi .eq main_arg5 main_v0
  main_v1
-- ==== Kernel.lean ====
abbrev S32768x512 : Shape := ⟨2, ![32768, 512]⟩
abbrev S32768x64 : Shape := ⟨2, ![32768, 64]⟩
abbrev S32768 : Shape := ⟨1, ![32768]⟩
abbrev S64x512 : Shape := ⟨2, ![64, 512]⟩
abbrev S64 : Shape := ⟨1, ![64]⟩
abbrev S64x1024 : Shape := ⟨2, ![64, 1024]⟩
abbrev S512x64 : Shape := ⟨2, ![512, 64]⟩
abbrev S1x64 : Shape := ⟨2, ![1, 64]⟩
abbrev S2048x512 : Shape := ⟨2, ![2048, 512]⟩
abbrev S2048x64 : Shape := ⟨2, ![2048, 64]⟩

abbrev nBuf : Space → Nat
  | .hbm => 19
  | .vmem => 17
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x64, .f32⟩
  | .hbm, ⟨3, _⟩ => ⟨S32768x64, .f32⟩
  | .hbm, ⟨4, _⟩ => ⟨S32768, .i32⟩
  | .hbm, ⟨5, _⟩ => ⟨S32768, .i32⟩
  | .hbm, ⟨6, _⟩ => ⟨S64x512, .f32⟩
  | .hbm, ⟨7, _⟩ => ⟨S64, .f32⟩
  | .hbm, ⟨8, _⟩ => ⟨S64x1024, .f32⟩
  | .hbm, ⟨9, _⟩ => ⟨S64, .f32⟩
  | .hbm, ⟨10, _⟩ => ⟨S512x64, .f32⟩
  | .hbm, ⟨11, _⟩ => ⟨S64x512, .f32⟩
  | .hbm, ⟨12, _⟩ => ⟨S512x64, .f32⟩
  | .hbm, ⟨13, _⟩ => ⟨S64x512, .f32⟩
  | .hbm, ⟨14, _⟩ => ⟨S512x64, .f32⟩
  | .hbm, ⟨15, _⟩ => ⟨S1x64, .f32⟩
  | .hbm, ⟨16, _⟩ => ⟨S1x64, .f32⟩
  | .hbm, ⟨17, _⟩ => ⟨S32768x64, .f32⟩
  | .hbm, ⟨18, _⟩ => ⟨S32768x64, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S1x64, .f32⟩
  | .local _ .vmem, ⟨12, _⟩ => ⟨S1x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S32768x512 : Shape := ⟨2, ![32768, 512]⟩
abbrev S32768x64 : Shape := ⟨2, ![32768, 64]⟩
abbrev S32768 : Shape := ⟨1, ![32768]⟩
abbrev S64x512 : Shape := ⟨2, ![64, 512]⟩
abbrev S64 : Shape := ⟨1, ![64]⟩
abbrev S64x1024 : Shape := ⟨2, ![64, 1024]⟩
abbrev S512x64 : Shape := ⟨2, ![512, 64]⟩
abbrev S1x64 : Shape := ⟨2, ![1, 64]⟩
abbrev S_ : Shape := ⟨0, ![]⟩
abbrev S1 : Shape := ⟨1, ![1]⟩
abbrev S32767 : Shape := ⟨1, ![32767]⟩
abbrev S32768x1 : Shape := ⟨2, ![32768, 1]⟩
abbrev S1x1 : Shape := ⟨2, ![1, 1]⟩
abbrev S32768x1024 : Shape := ⟨2, ![32768, 1024]⟩
abbrev S1024x64 : Shape := ⟨2, ![1024, 64]⟩

abbrev nBuf : Space → Nat
  | .hbm => 87
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x64, .f32⟩
  | .hbm, ⟨3, _⟩ => ⟨S32768x64, .f32⟩
  | .hbm, ⟨4, _⟩ => ⟨S32768, .i32⟩
  | .hbm, ⟨5, _⟩ => ⟨S32768, .i32⟩
  | .hbm, ⟨6, _⟩ => ⟨S64x512, .f32⟩
  | .hbm, ⟨7, _⟩ => ⟨S64, .f32⟩
  | .hbm, ⟨8, _⟩ => ⟨S64x1024, .f32⟩
  | .hbm, ⟨9, _⟩ => ⟨S64, .f32⟩
  | .hbm, ⟨10, _⟩ => ⟨S512x64, .f32⟩
  | .hbm, ⟨11, _⟩ => ⟨S32768x64, .f32⟩
  | .hbm, ⟨12, _⟩ => ⟨S1x64, .f32⟩
  | .hbm, ⟨13, _⟩ => ⟨S32768x64, .f32⟩
  | .hbm, ⟨14, _⟩ => ⟨S32768x64, .f32⟩
  | .hbm, ⟨15, _⟩ => ⟨S_, .f32⟩
  | .hbm, ⟨16, _⟩ => ⟨S32768x64, .f32⟩
  | .hbm, ⟨17, _⟩ => ⟨S32768x64, .i1⟩
  | .hbm, ⟨18, _⟩ => ⟨S_, .f32⟩
  | .hbm, ⟨19, _⟩ => ⟨S_, .f32⟩
  | .hbm, ⟨20, _⟩ => ⟨S32768x64, .f32⟩
  | .hbm, ⟨21, _⟩ => ⟨S32768x64, .f32⟩
  | .hbm, ⟨22, _⟩ => ⟨S1, .i32⟩
  | .hbm, ⟨23, _⟩ => ⟨S32767, .i32⟩
  | .hbm, ⟨24, _⟩ => ⟨S32768, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S32768, .i32⟩
  | .hbm, ⟨29, _⟩ => ⟨S_, .i32⟩
  | .hbm, ⟨30, _⟩ => ⟨S_, .i32⟩
  | .hbm, ⟨31, _⟩ => ⟨S32768, .i32⟩
  | .hbm, ⟨32, _⟩ => ⟨S_, .i32⟩
  | .hbm, ⟨33, _⟩ => ⟨S32768, .i32⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S32768, .i32⟩
  | .hbm, ⟨41, _⟩ => ⟨S32768x1, .i32⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S_, .i32⟩
  | .hbm, ⟨46, _⟩ => ⟨S_, .i32⟩
  | .hbm, ⟨47, _⟩ => ⟨S32768, .i32⟩
  | .hbm, ⟨48, _⟩ => ⟨S_, .i32⟩
  | .hbm, ⟨49, _⟩ => ⟨S32768, .i32⟩
  | .hbm, ⟨50, _⟩ => ⟨S32768, .i32⟩
  | .hbm, ⟨51, _⟩ => ⟨S_, .i32⟩
  | .hbm, ⟨52, _⟩ => ⟨S32768, .i32⟩
  | .hbm, ⟨53, _⟩ => ⟨S32768, .i1⟩
  | .hbm, ⟨54, _⟩ => ⟨S_, .i32⟩
  | .hbm, ⟨55, _⟩ => ⟨S32768, .i32⟩
  | .hbm, ⟨56, _⟩ => ⟨S32768, .i32⟩
  | .hbm, ⟨57, _⟩ => ⟨S32768, .i32⟩
  | .hbm, ⟨58, _⟩ => ⟨S32768x1, .i32⟩
  | .hbm, ⟨59, _⟩ => ⟨S1, .i32⟩
  | .hbm, ⟨60, _⟩ => ⟨S_, .i32⟩
  | .hbm, ⟨61, _⟩ => ⟨S32768x1, .i32⟩
  | .hbm, ⟨62, _⟩ => ⟨S32768x1, .i1⟩
  | .hbm, ⟨63, _⟩ => ⟨S1x1, .i32⟩
  | .hbm, ⟨64, _⟩ => ⟨S32768x1, .i32⟩
  | .hbm, ⟨65, _⟩ => ⟨S32768x1, .i1⟩
  | .hbm, ⟨66, _⟩ => ⟨S32768x1, .i1⟩
  | .hbm, ⟨67, _⟩ => ⟨S_, .i1⟩
  | .hbm, ⟨68, _⟩ => ⟨S32768, .i1⟩
  | .hbm, ⟨69, _⟩ => ⟨S32768x512, .f32⟩
  | .hbm, ⟨70, _⟩ => ⟨S32768x512, .i1⟩
  | .hbm, ⟨71, _⟩ => ⟨S_, .f32⟩
  | .hbm, ⟨72, _⟩ => ⟨S32768x512, .f32⟩
  | .hbm, ⟨73, _⟩ => ⟨S32768x512, .f32⟩
  | .hbm, ⟨74, _⟩ => ⟨S32768x1024, .f32⟩
  | .hbm, ⟨75, _⟩ => ⟨S1024x64, .f32⟩
  | .hbm, ⟨76, _⟩ => ⟨S32768x64, .f32⟩
  | .hbm, ⟨77, _⟩ => ⟨S1x64, .f32⟩
  | .hbm, ⟨78, _⟩ => ⟨S32768x64, .f32⟩
  | .hbm, ⟨79, _⟩ => ⟨S32768x64, .f32⟩
  | .hbm, ⟨80, _⟩ => ⟨S_, .f32⟩
  | .hbm, ⟨81, _⟩ => ⟨S32768x64, .f32⟩
  | .hbm, ⟨82, _⟩ => ⟨S32768x64, .i1⟩
  | .hbm, ⟨83, _⟩ => ⟨S_, .f32⟩
  | .hbm, ⟨84, _⟩ => ⟨S_, .f32⟩
  | .hbm, ⟨85, _⟩ => ⟨S32768x64, .f32⟩
  | .hbm, ⟨86, _⟩ => ⟨S32768x64, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_call2_call0_c : Ref sig .tc := ⟨.hbm, 29, rfl⟩
abbrev main_call2_call0_v0 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_c_3 : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_call3_call0_c : Ref sig .tc := ⟨.hbm, 45, rfl⟩
abbrev main_call3_call0_v0 : Ref sig .tc := ⟨.hbm, 46, rfl⟩
abbrev main_v21 : Ref sig .tc := ⟨.hbm, 47, rfl⟩
abbrev main_c_6 : Ref sig .tc := ⟨.hbm, 48, rfl⟩
abbrev main_v22 : Ref sig .tc := ⟨.hbm, 49, rfl⟩
abbrev main_v23 : Ref sig .tc := ⟨.hbm, 50, rfl⟩
abbrev main_call4_c : Ref sig .tc := ⟨.hbm, 51, rfl⟩
abbrev main_call4_v0 : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_v5 : Ref sig .tc := ⟨.hbm, 58, rfl⟩
abbrev main_call4_c_1 : Ref sig .tc := ⟨.hbm, 59, rfl⟩
abbrev main_call4_c_2 : Ref sig .tc := ⟨.hbm, 60, rfl⟩
abbrev main_call4_v6 : Ref sig .tc := ⟨.hbm, 61, rfl⟩
abbrev main_call4_v7 : Ref sig .tc := ⟨.hbm, 62, rfl⟩
abbrev main_call4_v8 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_c_3 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_call4_cst : Ref sig .tc := ⟨.hbm, 71, rfl⟩
abbrev main_call4_v15 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_cst_7 : Ref sig .tc := ⟨.hbm, 80, rfl⟩
abbrev main_v31 : Ref sig .tc := ⟨.hbm, 81, rfl⟩
abbrev main_v32 : Ref sig .tc := ⟨.hbm, 82, rfl⟩
abbrev main_cst_8 : Ref sig .tc := ⟨.hbm, 83, rfl⟩
abbrev main_call5_v0 : Ref sig .tc := ⟨.hbm, 84, rfl⟩
abbrev main_call5_v1 : Ref sig .tc := ⟨.hbm, 85, rfl⟩
abbrev main_v33 : Ref sig .tc := ⟨.hbm, 86, rfl⟩

abbrev nD : Nat := 1
abbrev τ : Topo := Topo.v7x

variable {F : FTy → Type} [FloatOps F]
-- ==== Proof.Bags.lean ====
/- The two results as functions of the argument arrays, index by index: what both programs are shown to compute. -/
module

public import Idealize.ShloMosaic.Lib.Pointwise

@[expose] public section

set_option maxRecDepth 16384

noncomputable section

namespace Cert.Bags

open Idealize.ShloMosaic

/-- Rows by their bag of 512 features, by 64 results. -/
abbrev Rows : Shape := ⟨2, ![32768, 512]⟩
abbrev Out : Shape := ⟨2, ![32768, 64]⟩
abbrev RootW : Shape := ⟨2, ![64, 512]⟩
abbrev SubW : Shape := ⟨2, ![64, 1024]⟩
abbrev Bias : Shape := ⟨1, ![64]⟩

/-- What a masked entry holds: the word of minus infinity. -/
abbrev negInf : EReal := Ideal.ofBits .f32 0xFF800000#32

/-- The root bag: row `i 0` of `x` against row `i 1` of the weights, plus the bias; minus infinity where the mask is at least one. -/
def root (x : FVec Ideal Rows .f32) (mask : FVec Ideal Out .f32) (w : FVec Ideal RootW .f32) (b : FVec Ideal Bias .f32) :
    FVec Ideal Out .f32 := fun i =>
  if (1 : EReal) ≤ mask i then negInf
  else (∑ k : Fin 512, x (ix2 (i 0 : Fin 32768) k) * w (ix2 (i 1 : Fin 64) k)) + b (ix1 (i 1 : Fin 64))

/-- The sub bag: the root row against the first 512 weights and the raw sub row against the last 512, plus the bias; minus infinity
    where the mask is at least one. -/
def sub (x raw : FVec Ideal Rows .f32) (mask : FVec Ideal Out .f32) (w : FVec Ideal SubW .f32) (b : FVec Ideal Bias .f32) :
    FVec Ideal Out .f32 := fun i =>
  if (1 : EReal) ≤ mask i then negInf
  else ((∑ k : Fin 512, x (ix2 (i 0 : Fin 32768) k) * w (ix2 (i 1 : Fin 64) (⟨k.val, by omega⟩ : Fin 1024)))
      + ∑ k : Fin 512, raw (ix2 (i 0 : Fin 32768) k) * w (ix2 (i 1 : Fin 64) (⟨512 + k.val, by omega⟩ : Fin 1024)))
    + b (ix1 (i 1 : Fin 64))

end Cert.Bags

end
-- ==== Proof.Blocks.lean ====
/- What the kernel's two result arrays hold after the run, as functions of the argument arrays. -/
module

public import proofs.«01_k».proof.Proof.Gen.KernelIdeal.Value
public import proofs.«01_k».proof.Proof.Bags
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Bag

open Cert.KernelIdeal Cert.KernelIdeal.Gen

variable (m : (ℓ : Loc nD τ sig) → Buf (Elt Ideal) ℓ)

/-- Every window's block index at every grid point: the row windows move with the point, the weights and biases stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

/-- The transposed root weights that a point reads, at feature `k` and result `r`. -/
theorem root_w (c : Dev nD) (t : Fin cfg0.N) (k : Fin 512) (r : Fin 64) :
    iblk m c 4 t (ix2 k r) = m ((c : Thread nD τ).loc main_arg6) (ix2 r k) := by
  blk_simp [iblk]
  rw [show ((win0_4.blk t).view.emb (ix2 k r)) = ix2 k r by blk_ext [idx t]]
  entry_read
  pointwise

/-- The root bias that a point reads, at result `r`. -/
theorem root_b (c : Dev nD) (t : Fin cfg0.N) (r : Fin 64) :
    iblk m c 7 t (ix2 (0 : Fin 1) r) = m ((c : Thread nD τ).loc main_arg7) (ix1 r) := by
  blk_simp [iblk]
  rw [show ((win0_7.blk t).view.emb (ix2 (0 : Fin 1) r)) = ix2 (0 : Fin 1) r by blk_ext [idx t]]
  entry_read
  pointwise

/-- The sub weights of the root features that a point reads, at feature `k` and result `r`. -/
theorem sub_wa (c : Dev nD) (t : Fin cfg0.N) (k : Fin 512) (r : Fin 64) :
    iblk m c 5 t (ix2 k r) = m ((c : Thread nD τ).loc main_arg8) (ix2 r (⟨k.val, by omega⟩ : Fin 1024)) := by
  blk_simp [iblk]
  rw [show ((win0_5.blk t).view.emb (ix2 k r)) = ix2 k r by blk_ext [idx t]]
  entry_read
  pointwise

/-- The sub weights of the raw features that a point reads, at feature `k` and result `r`. -/
theorem sub_wb (c : Dev nD) (t : Fin cfg0.N) (k : Fin 512) (r : Fin 64) :
    iblk m c 6 t (ix2 k r) = m ((c : Thread nD τ).loc main_arg8) (ix2 r (⟨512 + k.val, by omega⟩ : Fin 1024)) := by
  blk_simp [iblk]
  rw [show ((win0_6.blk t).view.emb (ix2 k r)) = ix2 k r by blk_ext [idx t]]
  entry_read
  pointwise

/-- The sub bias that a point reads, at result `r`. -/
theorem sub_b (c : Dev nD) (t : Fin cfg0.N) (r : Fin 64) :
    iblk m c 8 t (ix2 (0 : Fin 1) r) = m ((c : Thread nD τ).loc main_arg9) (ix1 r) := by
  blk_simp [iblk]
  rw [show ((win0_8.blk t).view.emb (ix2 (0 : Fin 1) r)) = ix2 (0 : Fin 1) r by blk_ext [idx t]]
  entry_read
  pointwise

/-- What point `t` stores at index `y` of its root block is the root bag at the array index where `y` sits. -/
theorem root_point (c : Dev nD) (t : Fin cfg0.N) (y) : k0_pay1 (iblk m c 0 t) (iblk m c 4 t) (iblk m c 7 t) (iblk m c 2 t) y
    = Cert.Bags.root (m ((c : Thread nD τ).loc main_arg0)) (m ((c : Thread nD τ).loc main_arg2)) (m ((c : Thread nD τ).loc main_arg6))
        (m ((c : Thread nD τ).loc main_arg7)) (((cfg0.win 9).blk t).view.emb y) := by
  pointwise [k0_pay1, Cert.Bags.root]
  have hm : iblk m c 2 t y = m ((c : Thread nD τ).loc main_arg2) (((cfg0.win 9).blk t).view.emb y) := by
    blk_point [iblk, V, idx t]
  refine if_congr (by rw [hm]) rfl (congrArg₂ (· + ·) (Finset.sum_congr rfl fun k _ => congrArg₂ (· * ·) ?_
    ((root_w m c t k (y 1)).trans ?_)) ((root_b m c t (y 1)).trans ?_)) <;> blk_point [iblk, V, idx t]

/-- After the run the kernel's first result array is the root bag of the arguments. -/
theorem root_final (c : Dev nD) : (dats m 0 c).arrAt 9 (cfgs 0).N
    = Cert.Bags.root (m ((c : Thread nD τ).loc main_arg0)) (m ((c : Thread nD τ).loc main_arg2)) (m ((c : Thread nD τ).loc main_arg6))
        (m ((c : Thread nD τ).loc main_arg7)) := by
  refine (dats m 0 c).arrAt_eq_of_covers 9 _ (by decide +kernel) fun t _ y => ?_
  blk_simp
  rw [after0_9]; frame_out
  exact root_point m c t y

/-- What point `t` stores at index `y` of its sub block is the sub bag at the array index where `y` sits. -/
theorem sub_point (c : Dev nD) (t : Fin cfg0.N) (y) :
    k0_pay2 (iblk m c 0 t) (iblk m c 1 t) (iblk m c 5 t) (iblk m c 6 t) (iblk m c 8 t) (iblk m c 3 t) y
    = Cert.Bags.sub (m ((c : Thread nD τ).loc main_arg0)) (m ((c : Thread nD τ).loc main_arg1)) (m ((c : Thread nD τ).loc main_arg3))
        (m ((c : Thread nD τ).loc main_arg8)) (m ((c : Thread nD τ).loc main_arg9)) (((cfg0.win 10).blk t).view.emb y) := by
  pointwise [k0_pay2, Cert.Bags.sub]
  have hm : iblk m c 3 t y = m ((c : Thread nD τ).loc main_arg3) (((cfg0.win 10).blk t).view.emb y) := by
    blk_point [iblk, V, idx t]
  refine if_congr (by rw [hm]) rfl (congrArg₂ (· + ·) (congrArg₂ (· + ·)
      (Finset.sum_congr rfl fun k _ => congrArg₂ (· * ·) ?_ ((sub_wa m c t k (y 1)).trans ?_))
      (Finset.sum_congr rfl fun k _ => congrArg₂ (· * ·) ?_ ((sub_wb m c t k (y 1)).trans ?_)))
    ((sub_b m c t (y 1)).trans ?_)) <;> blk_point [iblk, V, idx t]

/-- After the run the kernel's second result array is the sub bag of the arguments, each sub row paired with the root row of its number. -/
theorem sub_final (c : Dev nD) : (dats m 0 c).arrAt 10 (cfgs 0).N
    = Cert.Bags.sub (m ((c : Thread nD τ).loc main_arg0)) (m ((c : Thread nD τ).loc main_arg1)) (m ((c : Thread nD τ).loc main_arg3))
        (m ((c : Thread nD τ).loc main_arg8)) (m ((c : Thread nD τ).loc main_arg9)) := by
  refine (dats m 0 c).arrAt_eq_of_covers 10 _ (by decide +kernel) fun t _ y => ?_
  blk_simp
  rw [after0_10]; frame_out
  exact sub_point m c t y

end Cert.KernelIdeal.Bag

end
-- ==== Proof.Expand.lean ====
/- The expansion of the reference: a table's rows repeated by their lengths. Where every length is one, the expanded table is the table. -/
module

public import proofs.«01_k».proof.Proof.Gen.ReferenceIdeal
public import Idealize.ShloMosaic.PureOps.Ideal
public import Idealize.ShloMosaic.Lib.Routing.Ops
public import Idealize.ShloMosaic.Lib.Routing.OpsPair
public import Idealize.ShloMosaic.Lib.Routing.OpsSet
public import Idealize.ShloMosaic.Lib.WordCmp

@[expose] public section

set_option maxRecDepth 16384

noncomputable section

namespace Cert.ReferenceIdeal.Expand

open Cert.ReferenceIdeal Cert.ReferenceIdeal.Gen Idealize.ShloMosaic Idealize.ShloMosaic.Routing
open Idealize.ShloMosaic.ValueIdx

/-- The words zero and one, at rank zero. -/
abbrev zero0 : IVec S_ 32 := constantI S_ 32 0#32
abbrev one0 : IVec S_ 32 := constantI S_ 32 1#32

/-- The lengths, moved on by one position, the last one first. -/
def rolled (lens : IVec S32768 32) : IVec S32768 32 :=
  concatenate S32768 0 [⟨S1, (extractStridedSlice S1 ![32767] lens slices_S32768_S1_32767)⟩,
    ⟨S32767, (extractStridedSlice S32767 ![0] lens slices_S32768_S32767_0)⟩] concatenates_S1_S32767_S32768_d0

/-- The same with the first entry set to zero. -/
def opened (lens : IVec S32768 32) : IVec S32768 32 :=
  Host.scatter scatter_S32768_S1_S__n_0_0_0 (fun _ b => b) (rolled lens) (broadcastInDim S1 ![] bcast_S_S1 zero0) zero0

/-- The running sums of a vector of words. -/
def running (x : IVec S32768 32) : IVec S32768 32 :=
  Host.reduceWindow IntOp.addi ![32768] ![1] ![32767] ![0] x (broadcastInDim S_ ![] bcast_S_S_ zero0)
    reduceWindows_S32768_S32768_w32768s1p32767_0 h_S_

/-- An index vector with 32768 added to its negative entries. -/
def wrapped (x : IVec S32768 32) : IVec S32768 32 :=
  select (cmpi .slt x (broadcastInDim S32768 ![] bcast_S_S32768 zero0))
    (addi x (broadcastInDim S32768 ![] bcast_S_S32768 (constantI S_ 32 32768#32))) x

/-- An index vector as a column. -/
def column (x : IVec S32768 32) : IVec S32768x1 32 := broadcastInDim S32768x1 ![0] bcast_S32768_S32768x1_0 x

/-- How many rows start at each position. -/
def starts (lens : IVec S32768 32) : IVec S32768 32 :=
  Host.scatter scatter_S32768_S32768x1_S32768_n_0_0_1 IntOp.addi (broadcastInDim S32768 ![] bcast_S_S32768 zero0)
    (column (wrapped (running (opened lens)))) (broadcastInDim S32768 ![] bcast_S_S32768 one0)

/-- The row that stands at each position. -/
def source (lens : IVec S32768 32) : IVec S32768 32 :=
  subi (running (starts lens)) (broadcastInDim S32768 ![] bcast_S_S32768 one0)

/-- The take's bounds test of an index column, as a one-bit word for each row. -/
def inside (x : IVec S32768x1 32) : IVec S32768 1 :=
  Host.reduce IntOp.andi (andi (cmpi .sge x (broadcastInDim S32768x1 ![] bcast_S_S32768x1 zero0))
    (cmpi .sle x (broadcastInDim S32768x1 ![0, 1] bcast_S1x1_S32768x1_0_1 (broadcastInDim S1x1 ![1] bcast_S1_S1x1_1 (constantI S1 32 32767#32)))))
    (constantI S_ 1 1#1) reducesTo_S32768x1_S32768_d1 h_S_

/-- The expanded table: its row at each position is the table's row that stands there. -/
def expand (x : FVec Ideal S32768x512 .f32) (lens : IVec S32768 32) : FVec Ideal S32768x512 .f32 :=
  select (broadcastInDim S32768x512 ![0] bcast_S32768_S32768x512_0 (inside (column (wrapped (source lens)))))
    (Host.gather gather_S32768x512_S32768x1_S32768x512_1_0_n_n_0_1_1512 x (column (wrapped (source lens))))
    (broadcastInDim S32768x512 ![] bcast_S_S32768x512 (constant S_ .f32 0x7FC00000#32))

/-- Every index of a vector is one coordinate. -/
theorem eq_ix1' {n : Nat} (i : (shape1 n).Idx) : i = ix1 (i 0 : Fin n) := by
  funext a; match a with | ⟨0, _⟩ => rfl

/-- A shift of a vector of ones holds ones. -/
theorem rolled_ones (i : Fin 32768) : rolled (fun _ => 1#32) (ix1 i) = 1#32 := by
  have hi := i.isLt
  unfold rolled
  by_cases h : i.val < 1
  · exact concatenate_pair_apply_left (s₁ := S1) (s₂ := S32767) (t := S32768) 0 _ _ concatenates_S1_S32767_S32768_d0 (ix1 i) rfl
      (ix1 (⟨i.val, h⟩ : Fin 1)) (fun b => match b with | ⟨0, _⟩ => rfl)
  · exact concatenate_pair_apply_right (s₁ := S1) (s₂ := S32767) (t := S32768) 0 _ _ concatenates_S1_S32767_S32768_d0 (ix1 i) rfl rfl
      (ix1 (⟨i.val - 1, by omega⟩ : Fin 32767)) (fun b hb => match b, hb with | ⟨0, _⟩, hb => absurd rfl hb)
      (show i.val - 1 + 1 = i.val by omega)

/-- The one update of the set lands at position zero and nowhere else. -/
theorem set_lands (k : S_.Idx) (i : Fin 32768) :
    scatter_S32768_S1_S__n_0_0_0.resultIdx? k (broadcastInDim S1 ![] bcast_S_S1 zero0) = some (ix1 i) ↔ i.val = 0 := by
  rw [resultIdx?_ix1]
  have hw : scatter_S32768_S1_S__n_0_0_0.window k 0 = 0 := by
    unfold ScatterDims.window
    rw [dif_neg fun h => (of_decide_eq_true (List.mem_filter.1 h).2) (List.mem_singleton.2 rfl)]
  have hs : scatter_S32768_S1_S__n_0_0_0.start k (broadcastInDim S1 ![] bcast_S_S1 zero0) 0 = 0 := by
    unfold ScatterDims.start
    split <;> rfl
  rw [hw, hs]
  omega

/-- From lengths of one: zero at the first position, one elsewhere. -/
theorem opened_ones (i : Fin 32768) : opened (fun _ => 1#32) (ix1 i) = BitVec.ofNat 32 (if i.val = 0 then 0 else 1) := by
  unfold opened
  by_cases h : i.val = 0
  · rw [if_pos h]
    exact scatter_set_hit _ _ _ _ _ 0#32 (fun _ _ => rfl) ix0 ((set_lands ix0 i).2 h)
  · rw [if_neg h, scatter_set_miss _ _ _ _ _ fun k e => h ((set_lands k i).1 e)]
    exact rolled_ones i

/-- The running sums of a vector whose entry `i` is `f i`. -/
theorem running_eq (x : IVec S32768 32) (f : Nat → Nat) (hx : ∀ i : Fin 32768, x (ix1 i) = BitVec.ofNat 32 (f i.val)) (j : Fin 32768) :
    running x (ix1 j) = BitVec.ofNat 32 ((List.range (j.val + 1)).map f).sum :=
  cumsum1 (N := 32768) (Nm1 := 32767) rfl x f hx _ rfl reduceWindows_S32768_S32768_w32768s1p32767_0 h_S_ j

/-- The sum of zero and then `n` ones. -/
theorem sum_opened (n : Nat) : ((List.range (n + 1)).map fun i => if i = 0 then 0 else 1).sum = n := by
  induction n with
  | zero => rfl
  | succ n ih => rw [List.range_succ, List.map_append, List.sum_append, ih]; simp

/-- The sum of `n` ones. -/
theorem sum_one (n : Nat) : ((List.range n).map fun _ => 1).sum = n := by simp

/-- An index below 32768 stays as it is. -/
theorem wrapped_of_lt (x : IVec S32768 32) (i : Fin 32768) (hx : x (ix1 i) = BitVec.ofNat 32 i.val) :
    wrapped x (ix1 i) = BitVec.ofNat 32 i.val := by
  have hi := i.isLt
  refine (wrap_of_lt (x (ix1 i)) _ ?_).trans hx
  rw [hx, BitVec.toNat_ofNat]
  omega

/-- A column's entry is the vector's. -/
theorem column_at (x : IVec S32768 32) (i : Fin 32768) : column x (ix2 i (0 : Fin 1)) = x (ix1 i) :=
  bcCol bcast_S32768_S32768x1_0 x i

/-- From lengths of one: row `i` starts at position `i`. -/
theorem start_at (i : Fin 32768) : column (wrapped (running (opened (fun _ => 1#32)))) (ix2 i (0 : Fin 1)) = BitVec.ofNat 32 i.val := by
  rw [column_at]
  refine wrapped_of_lt _ i ?_
  rw [running_eq _ (fun i => if i = 0 then 0 else 1) opened_ones, sum_opened]

/-- One position of the first `n` is `x`, when `x` is among them. -/
theorem count_self (x n : Nat) : Nat.count (fun i => i = x) n = if x < n then 1 else 0 := by
  induction n with
  | zero => rfl
  | succ n ih =>
    rw [Nat.count_succ, ih]
    split_ifs <;> omega

/-- From lengths of one: one row starts at every position. -/
theorem starts_ones (i : Fin 32768) : starts (fun _ => 1#32) (ix1 i) = BitVec.ofNat 32 1 := by
  unfold starts
  refine (scatter_hist scatter_S32768_S32768x1_S32768_n_0_0_1 rfl rfl rfl _ (fun _ => rfl) _ _ (fun _ => rfl) (fun i => i) start_at
    (fun i => by have := i.isLt; omega) i).trans ?_
  rw [count_self, if_pos i.isLt]

/-- From lengths of one: row `i` stands at position `i`. -/
theorem source_ones (i : Fin 32768) : source (fun _ => 1#32) (ix1 i) = BitVec.ofNat 32 i.val := by
  have h : running (starts (fun _ => 1#32)) (ix1 i) = BitVec.ofNat 32 (i.val + 1) := by
    rw [running_eq _ (fun _ => 1) starts_ones, sum_one]
  show IntOp.subi (running (starts (fun _ => 1#32)) (ix1 i)) 1#32 = _
  rw [h]
  show BitVec.ofNat 32 (i.val + 1) - BitVec.ofNat 32 1 = _
  rw [BitVec.ofNat_add, BitVec.add_sub_cancel]

/-- The index column that the take reads holds `i` at row `i`. -/
theorem index_ones (i : Fin 32768) : column (wrapped (source (fun _ => 1#32))) (ix2 i (0 : Fin 1)) = BitVec.ofNat 32 i.val := by
  rw [column_at]
  exact wrapped_of_lt _ i (source_ones i)

/-- A conjunction of bits that are all one is one. -/
theorem foldl_andi_one {ι : Type} (l : List ι) (g : ι → BitVec 1) (hg : ∀ n, g n = 1#1) :
    l.foldl (fun r n => IntOp.andi r (g n)) 1#1 = 1#1 := by
  induction l with
  | nil => rfl
  | cons n l ih => rw [List.foldl_cons, hg]; exact ih

/-- The bounds test passes at every row when every index is its row's number. -/
theorem inside_of_rows (x : IVec S32768x1 32) (hx : ∀ i : Fin 32768, x (ix2 i (0 : Fin 1)) = BitVec.ofNat 32 i.val) (j : S32768.Idx) :
    inside x j = 1#1 := by
  unfold inside Host.reduce
  refine foldl_andi_one _ _ fun n => ?_
  generalize S32768x1.rowMajor.symm n = k
  obtain ⟨r, rfl⟩ : ∃ r : Fin 32768, k = ix2 r (0 : Fin 1) := ⟨k 0, by
    funext a
    match a with
    | ⟨0, _⟩ => rfl
    | ⟨1, _⟩ => exact Subsingleton.elim (α := Fin 1) _ _⟩
  have hlt := r.isLt
  show IntOp.andi (IntOp.cmpi .sge (x (ix2 r (0 : Fin 1))) (BitVec.ofNat 32 0)) (IntOp.cmpi .sle (x (ix2 r (0 : Fin 1))) (BitVec.ofNat 32 32767)) = 1#1
  rw [hx, WordCmp.cmpi_sge_ofNat (by omega) (by omega), WordCmp.cmpi_sle_ofNat (by omega) (by omega)]
  have h1 : r.val ≤ 32767 := by omega
  simp only [Nat.zero_le, h1, decide_true]
  rfl

/-- The table expanded by lengths of one is the table. -/
theorem expand_ones (x : FVec Ideal S32768x512 .f32) : expand x (fun _ => 1#32) = x := by
  funext i
  obtain ⟨r, k, rfl⟩ : ∃ (r : Fin 32768) (k : Fin 512), i = ix2 r k := ⟨i 0, i 1, by
    funext a
    match a with
    | ⟨0, _⟩ => rfl
    | ⟨1, _⟩ => rfl⟩
  have hb := index_ones r
  have hin := inside_of_rows _ index_ones
  unfold expand
  generalize column (wrapped (source fun _ => 1#32)) = idx at hb hin ⊢
  have hc : broadcastInDim S32768x512 ![0] bcast_S32768_S32768x512_0 (inside idx) (ix2 r k) = 1#1 := hin _
  have hg : Host.gather gather_S32768x512_S32768x1_S32768x512_1_0_n_n_0_1_1512 x idx (ix2 r k) = x (ix2 r k) :=
    gather_row (nb := 32768) (B := 512) (n := 32768) _ rfl rfl rfl rfl rfl x idx r k r hb (by norm_num)
  rw [select_apply, hc, hg]
  rfl

end Cert.ReferenceIdeal.Expand

end
-- ==== Proof.Result.lean ====
/- What the reference's two results are, as functions of the argument arrays, where every length is one. -/
module

public import proofs.«01_k».proof.Proof.Gen.ReferenceIdeal.Run
public import proofs.«01_k».proof.Proof.Bags
public import proofs.«01_k».proof.Proof.Expand
public import Idealize.ShloMosaic.Lib.Pointwise

@[expose] public section

set_option maxRecDepth 16384

noncomputable section

namespace Cert.ReferenceIdeal.Result

open Cert.ReferenceIdeal Cert.ReferenceIdeal.Gen Idealize.ShloMosaic Idealize.ShloMosaic.TcCoe Idealize.SL.Sem

/-- The root bag in the reference's own operations. -/
def rootTerm (x : FVec Ideal S32768x512 .f32) (mask : FVec Ideal S32768x64 .f32) (w : FVec Ideal S64x512 .f32) (b : FVec Ideal S64 .f32) :
    FVec Ideal S32768x64 .f32 :=
  select (cmpf .oge mask (broadcastInDim S32768x64 ![] bcast_S_S32768x64 (constant S_ .f32 0x3F800000#32)))
    (broadcastInDim S32768x64 ![] bcast_S_S32768x64 (id (constant S_ .f32 0xFF800000#32)))
    (addf (Host.dotGeneral dot_S32768x512_S512x64_S32768x64_1_0_0_1_n_n none x (transpose S512x64 [1, 0] w transposes_S64x512_S512x64_1_0))
      (broadcastInDim S32768x64 ![0, 1] bcast_S1x64_S32768x64_0_1 (broadcastInDim S1x64 ![1] bcast_S64_S1x64_1 b)))

/-- The sub bag in the reference's own operations, the expanded table given as `x`. -/
def subTerm (x raw : FVec Ideal S32768x512 .f32) (mask : FVec Ideal S32768x64 .f32) (w : FVec Ideal S64x1024 .f32) (b : FVec Ideal S64 .f32) :
    FVec Ideal S32768x64 .f32 :=
  select (cmpf .oge mask (broadcastInDim S32768x64 ![] bcast_S_S32768x64 (constant S_ .f32 0x3F800000#32)))
    (broadcastInDim S32768x64 ![] bcast_S_S32768x64 (id (constant S_ .f32 0xFF800000#32)))
    (addf (Host.dotGeneral dot_S32768x1024_S1024x64_S32768x64_1_0_0_1_n_n none
        (concatenate S32768x1024 1 [⟨S32768x512, x⟩, ⟨S32768x512, raw⟩] concatenates_S32768x512_S32768x512_S32768x1024_d1)
        (transpose S1024x64 [1, 0] w transposes_S64x1024_S1024x64_1_0))
      (broadcastInDim S32768x64 ![0, 1] bcast_S1x64_S32768x64_0_1 (broadcastInDim S1x64 ![1] bcast_S64_S1x64_1 b)))

/-- The reference's root term is the root bag. -/
theorem root_eq (x : FVec Ideal S32768x512 .f32) (mask : FVec Ideal S32768x64 .f32) (w : FVec Ideal S64x512 .f32) (b : FVec Ideal S64 .f32) :
    rootTerm x mask w b = Cert.Bags.root x mask w b := by
  funext i
  pointwise [rootTerm, Cert.Bags.root]
  rfl

/-- The reference's sub term is the sub bag: the sum over 1024 joined features is the sum over the first 512 and the sum over the last 512. -/
theorem sub_eq (x raw : FVec Ideal S32768x512 .f32) (mask : FVec Ideal S32768x64 .f32) (w : FVec Ideal S64x1024 .f32) (b : FVec Ideal S64 .f32) :
    subTerm x raw mask w b = Cert.Bags.sub x raw mask w b := by
  funext i
  pointwise [subTerm, Cert.Bags.sub]
  rfl

variable (m : (ℓ : Loc nD τ sig) → Buf (Elt Ideal) ℓ)

/-- The reference's second result is the sub term over the expanded table. -/
theorem second_eq (c : Dev nD) : Cert.ReferenceIdeal.Value.res_main_v33 m c
    = subTerm (Expand.expand (m ((c.tc : Thread nD τ).loc main_arg0)) (m ((c.tc : Thread nD τ).loc main_arg5)))
        (m ((c.tc : Thread nD τ).loc main_arg1)) (m ((c.tc : Thread nD τ).loc main_arg3)) (m ((c.tc : Thread nD τ).loc main_arg8))
        (m ((c.tc : Thread nD τ).loc main_arg9)) := by
  unfold Cert.ReferenceIdeal.Value.res_main_v33
  rfl

end Cert.ReferenceIdeal.Result

end
-- ==== Proof.Claims.lean ====
/- The claims, one theorem each. -/
module

public import proofs.«01_k».proof.Defs
public import proofs.«01_k».proof.Proof.Gen.Kernel.Frame
public import proofs.«01_k».proof.Proof.Gen.KernelIdeal.Frame
public import proofs.«01_k».proof.Proof.Blocks
public import proofs.«01_k».proof.Proof.Result
public import Idealize.ShloMosaic.Lib.Claim

@[expose] public section

set_option maxRecDepth 16384

noncomputable section

/-! ## The precondition, read -/

namespace Cert.Pre_unit_sub_lengths

open Idealize.ShloMosaic

/-- The one shape relation the precondition names: a scalar is spread over the vector of lengths. -/
theorem facts : Facts := ⟨Cert.ReferenceIdeal.Gen.facts.bcast_S_S32768⟩

/-- Where the precondition holds at every row, the sub lengths are the vector of ones. -/
theorem lengths_one [Facts] (x0 x1 : FVec Ideal S32768x512 .f32) (x2 x3 : FVec Ideal S32768x64 .f32) (x4 lens : IVec S32768 32)
    (x6 : FVec Ideal S64x512 .f32) (x7 : FVec Ideal S64 .f32) (x8 : FVec Ideal S64x1024 .f32) (x9 : FVec Ideal S64 .f32)
    (h : fn (F := Ideal) x0 x1 x2 x3 x4 lens x6 x7 x8 x9 = fun _ => 1#1) : lens = fun _ => 1#32 := by
  funext i
  have hi : IntOp.cmpi .eq (lens i) 1#32 = 1#1 := congrFun h i
  rw [WordCmp.cmpi_eq_eq, WordCmp.ofBool_decide_eq_one_iff] at hi
  exact hi

end Cert.Pre_unit_sub_lengths

namespace Cert.Proof.BagClaims

open Idealize.ShloMosaic Idealize.ShloMosaic.TcCoe Idealize.SL.Sem

/-- The kernel ends with its arguments unchanged and every counter at zero. -/
theorem frame_k : Cert.quiescent_Kernel := fun m ρ _ => Cert.Kernel.Gen.frame m ρ

/-- The same over the reals. -/
theorem frame_ki : Cert.quiescent_KernelIdeal := fun m ρ _ => Cert.KernelIdeal.Gen.frame m ρ

/-- The same where every sub length is one. -/
theorem frame_ki_pre [Cert.Pre_unit_sub_lengths.Facts] : Cert.quiescent_KernelIdeal_pre_unit_sub_lengths :=
  fun m ρ _ => Cert.KernelIdeal.Gen.frame m ρ

/-- The reference ends with its arguments unchanged; it has no counter. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same where every sub length is one. -/
theorem frame_ri_pre [Cert.Pre_unit_sub_lengths.Facts] : Cert.quiescent_ReferenceIdeal_pre_unit_sub_lengths :=
  fun m ρ _ => frame_ri m ρ trivial

/-- No operation of the kernel was changed to state it over the reals. -/
theorem preserves : Cert.preserves_Kernel_KernelIdeal := trivial

/-- Over the reals, where every sub length is one, the kernel and the reference end with the same two result arrays: the root bag and
    the sub bag of the arguments. -/
theorem algebraic [Cert.Pre_unit_sub_lengths.Facts] : Cert.algebraic_KernelIdeal_ReferenceIdeal_pre_unit_sub_lengths := by
  intro m ρ m' ρ' hpre hagree
  refine ⟨fun c => Cert.Bags.root (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.Bags.sub (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Bag.root_final m c),
        (h c).2.1.trans (Cert.KernelIdeal.Bag.sub_final m c), (h c).2.2⟩)
      (Cert.KernelIdeal.Value.run_blocks (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · refine (Cert.ReferenceIdeal.Result.root_eq _ _ _ _).trans ?_
      obtain ⟨h0, h1, h2, h3, h4, h5, h6, h7, h8, h9⟩ := hagree c
      rw [h0, h2, h6, h7]
    · obtain ⟨h0, h1, h2, h3, h4, h5, h6, h7, h8, h9⟩ := hagree c
      have hone := Cert.Pre_unit_sub_lengths.lengths_one _ _ _ _ _ _ _ _ _ _ (hpre c)
      refine (Cert.ReferenceIdeal.Result.second_eq m' c).trans ?_
      rw [h0, h1, h3, h5, h8, h9]
      refine Eq.trans (congrArg (fun l => Cert.ReferenceIdeal.Result.subTerm (Cert.ReferenceIdeal.Expand.expand _ l) _ _ _ _) hone) ?_
      refine (Cert.ReferenceIdeal.Result.sub_eq _ _ _ _ _).trans ?_
      exact congrArg (fun x => Cert.Bags.sub x _ _ _ _) (Cert.ReferenceIdeal.Expand.expand_ones _)

end Cert.Proof.BagClaims

end
-- ==== Proof.lean ====
/- The proof of everything the certificate claims of the two-headed bag kernel. -/
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Claims

@[expose] public section

noncomputable section

namespace Cert.Proof

open Cert.Proof.BagClaims

/-- Every claim holds: the frames of the three programs, that the ideal program is the kernel unchanged, and that the kernel and the
    reference end with the same two results over the reals where every sub length is one. -/
theorem claim : Cert.Claim :=
  have : Cert.Pre_unit_sub_lengths.Facts := Cert.Pre_unit_sub_lengths.facts
  ⟨Cert.Kernel.Gen.facts, Cert.KernelIdeal.Gen.facts, Cert.ReferenceIdeal.Gen.facts, Cert.Pre_unit_sub_lengths.facts,
    frame_k, frame_ki, frame_ki_pre, frame_ri, frame_ri_pre, preserves, algebraic⟩

end Cert.Proof

end
